-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1]⟩ ⟨2, ![1024, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S512x1 : Shape := ⟨2, ![512, 1]⟩
abbrev S2x4x128 : Shape := ⟨3, ![2, 4, 128]⟩
abbrev S_ : Shape := ⟨0, ![]⟩
abbrev S512 : Shape := ⟨1, ![512]⟩
abbrev S4x128 : Shape := ⟨2, ![4, 128]⟩
abbrev S1x4x128 : Shape := ⟨3, ![1, 4, 128]⟩
abbrev S4x1x128 : Shape := ⟨3, ![4, 1, 128]⟩
abbrev S4x128x128 : Shape := ⟨3, ![4, 128, 128]⟩
abbrev S512x128 : Shape := ⟨2, ![512, 128]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x1, .f32⟩
  | .local _ .vmem, ⟨0, _⟩ => ⟨S512x256, .f32⟩
  | .local _ .vmem, ⟨1, _⟩ => ⟨S512x1, .f32⟩
  | .local _ .vmem, ⟨2, _⟩ => ⟨S2x4x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_14 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_13 : BitVec 32 := 2#32
  let v19 : BitVec 32 := Scalar.muli v2 c2_i32_13
  let v20 : BitVec 32 := Scalar.addi c0_i32_14 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_15 : BitVec 32 := 1#32
  let v21 : BitVec 32 := Scalar.muli v6 c1_i32_15
  let v22 : BitVec 32 := Scalar.addi v20 v21
  v22.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S_ : Shape := ⟨0, ![]⟩
abbrev S1024 : Shape := ⟨1, ![1024]⟩
abbrev S1024x1 : Shape := ⟨2, ![1024, 1]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S1024, .f32⟩
  | .hbm, ⟨3, _⟩ => ⟨S1024x1, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Schedule.lean ====
/-
# The exchange of partial maxima: who waits for whom, and what each wait hands over

The mesh is 2 × 2. The devices of one mesh row hold the left and the right half of the same 512 rows. Each device
reduces its half to one maximum per row (512 numbers, kept as a 4 × 128 tile in slot 0 of a two-slot scratch buffer),
copies that tile into slot 1 of the other device of its row, and combines the two tiles.

Three semaphores order this on every device: the barrier semaphore (the partner is inside the kernel, so its slot 1
may be written), the send semaphore (the tile has left slot 0) and the receive semaphore (the partner's tile is in
slot 1). This module says, for each of the three, how many units it is paid and what the payment hands to the waiter.

One point needs care: the kernel loads slot 0 while the copy out of slot 0 may still be in flight. A transfer needs
only a share of its source, so the copy takes one half share of slot 0 and the loads use the other.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- Two copies of the rounds algebra: the staging pipeline's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: any contents, every counter at zero, any generator registers. -/
def atLaunch : MemSt nD τ sig (Elt F) := ⟨m, fun _ => 0, ρ⟩

/-! ## The partner -/

/-- The other device of the mesh row: devices 0 and 1 are partners, and so are 2 and 3. -/
def partner : Dev nD → Dev nD := ![1, 0, 3, 2]

/-- Partners are mutual. -/
theorem partner_partner (c : Dev nD) : partner (partner c) = c := by revert c; decide

/-- `partner` as a permutation of the devices. -/
def pairing : Dev nD ≃ Dev nD := ⟨partner, partner, partner_partner, partner_partner⟩

theorem partner_eq_iff {c d : Dev nD} : partner c = d ↔ c = partner d := pairing.apply_eq_iff_eq_symm_apply

/-- The partner's number in closed form. -/
theorem partner_val (c : Dev nD) : (partner c).val = 2 * (c.val / 2) + 1 - c.val % 2 := by revert c; decide

/-- The barrier signal is addressed to the partner. -/
theorem signalled (c : Dev nD) : (⟨k0_dev1 c, k0_dev1_lt c⟩ : Dev nD) = partner c :=
  Fin.ext ((k0_dev1_eq c).trans (partner_val c).symm)
/-- So is the copy. -/
theorem addressed (c : Dev nD) : (⟨k0_dev2 c, k0_dev2_lt c⟩ : Dev nD) = partner c :=
  Fin.ext ((k0_dev2_eq c).trans (partner_val c).symm)

/-! ## Buffers, slots and cells -/

/-- The staged block of `x`, the staged result and the two-slot scratch buffer. -/
abbrev xM : Memref sig .tc .vmem S512x256 .f32 := Memref.whole cc0_stg0_0
abbrev oM : Memref sig .tc .vmem S512x1 .f32 := Memref.whole cc0_stg1_0
abbrev commM : Memref sig .tc .vmem S2x4x128 .f32 := Memref.whole cc0_scratch0

/-- The rectangles of the two slots, as the loads and stores name them. -/
abbrev near : Rect S2x4x128 := Rect.unit (s := S2x4x128) ![0, 0, 0] S1x4x128.size inb_S2x4x128_S1x4x128_0_0_0
abbrev far : Rect S2x4x128 := Rect.unit (s := S2x4x128) ![1, 0, 0] S1x4x128.size inb_S2x4x128_S1x4x128_1_0_0

/-- The two slots, as the copy names them: slot 0 holds the device's own tile, slot 1 receives the partner's. -/
abbrev nearM : Memref sig .tc .vmem S4x128 .f32 := (commM.slice near (fun _ => rfl)).squeeze S4x128 squeezes_S1x4x128_S4x128
abbrev farM : Memref sig .tc .vmem S4x128 .f32 := (commM.slice far (fun _ => rfl)).squeeze S4x128 squeezes_S1x4x128_S4x128

/-- The contents of the scratch buffer. -/
abbrev Comm (F : FTy → Type) : Type := (cc0_scratch0 : Ref sig .tc).ty.Contents (Elt F)

abbrev barS : Sem sig := (SemArray.scalar (sig.barrier 0 rfl) : Sems sig S_).sem
abbrev sendS : DmaSem sig := (cc0_scratch1 : DmaSems sig S_).sem
abbrev recvS : DmaSem sig := (cc0_scratch2 : DmaSems sig S_).sem

/-- The three semaphores of the exchange, numbered: barrier, send, receive. -/
abbrev semOf : Fin 3 → SemLoc sig := ![.reg barS, .dma sendS, .dma recvS]

theorem semOf_injective : Function.Injective semOf := by decide

/-- Semaphore `k` of device `c`. -/
abbrev cell (c : Dev nD) (k : Fin 3) : GSem nD τ sig := ((c : Thread nD τ), semOf k)

theorem cell_inj {c d : Dev nD} {k j : Fin 3} : cell c k = cell d j ↔ c = d ∧ k = j := by
  constructor
  · intro h
    exact ⟨congrArg (fun g : GSem nD τ sig => g.1.1) h, semOf_injective (congrArg Prod.snd h)⟩
  · rintro ⟨rfl, rfl⟩; rfl

/-- The number of a semaphore of the exchange (2 for a semaphore that is none of the three). -/
def kindOf (s : SemLoc sig) : Fin 3 := if s = semOf 0 then 0 else if s = semOf 1 then 1 else 2

theorem kindOf_semOf (k : Fin 3) : kindOf (semOf k) = k := by revert k; decide

/-- What one tile's copy adds to a DMA semaphore. -/
abbrev tileUnits : ℕ := farM.view.dmaCredit

theorem tileUnits_pos : 0 < tileUnits := View.dmaCredit_pos _ (by decide)

/-- What semaphore `k` is paid in all: one signal at the barrier, a tile's credit at the other two. -/
def units (k : Fin 3) : ℕ := if k = 0 then 1 else tileUnits

theorem units_pos (k : Fin 3) : 0 < units k := by
  unfold units; split
  · exact Nat.one_pos
  · exact tileUnits_pos

/-! ## The slots as sets of elements -/

theorem nearM_set : nearM.view.set = near.set := by
  show ((commM.slice near (fun _ => rfl)).squeeze S4x128 squeezes_S1x4x128_S4x128).view.set = near.set
  rw [Memref.set_view_squeeze]; exact View.set_slice_whole cc0_scratch0 near
theorem farM_set : farM.view.set = far.set := by
  show ((commM.slice far (fun _ => rfl)).squeeze S4x128 squeezes_S1x4x128_S4x128).view.set = far.set
  rw [Memref.set_view_squeeze]; exact View.set_slice_whole cc0_scratch0 far

/-- An element lies in slot 0 when its first coordinate is 0, -/
theorem mem_near (i : S2x4x128.Idx) : i ∈ near.set ↔ (i 0).val = 0 := by
  rw [Rect.mem_set_unit]
  constructor
  · intro h; have := (h 0).2; simpa using this
  · intro h a
    have := (i a).isLt
    fin_cases a <;> simp_all [S2x4x128, S1x4x128]
/-- and in slot 1 when it is 1. -/
theorem mem_far (i : S2x4x128.Idx) : i ∈ far.set ↔ (i 0).val = 1 := by
  rw [Rect.mem_set_unit]
  constructor
  · intro h; have h0 := h 0; simp [S1x4x128] at h0; omega
  · intro h a
    have := (i a).isLt
    fin_cases a <;> simp_all [S2x4x128, S1x4x128]

/-- The slots do not overlap, -/
theorem slots_disjoint : Disjoint near.set far.set := by
  rw [Finset.disjoint_left]; intro i h h'; rw [mem_near] at h; rw [mem_far] at h'; omega
/-- and together are the buffer. -/
theorem slots_cover : near.set ∪ far.set = (Finset.univ : Finset S2x4x128.Idx) := by
  ext i
  have : (i 0).val < 2 := (i 0).isLt
  simp only [Finset.mem_union, mem_near, mem_far, Finset.mem_univ, iff_true]; omega

/-! ## What the slots hold -/

/-- The block of `x` device `c` reduces, as its staging buffer holds it. -/
def block (c : Dev nD) : (cc0_stg0_0 : Ref sig .tc).ty.Contents (Elt F) :=
  (win0_0.blk (0 : Fin 1)).view.read (Elt F) ((atLaunch m ρ).mem ((c : Thread nD τ).loc main_arg0))

/-- Device `c`'s partial maxima, one per row of its block. -/
def tile (c : Dev nD) : Vec F S1x4x128 .f32 := k0_pay1 (block m ρ c)

/-- A tile laid over both slots: contents for the whole scratch buffer that read as the tile through either slot. -/
def both (p : Vec F S1x4x128 .f32) : Comm F := fun i : S2x4x128.Idx => p (ix3 (0 : Fin 1) (i 1) (i 2))

/-- What the kernel leaves in the result's staging buffer: its own tile combined with its partner's. -/
def result (c : Dev nD) : (cc0_stg1_0 : Ref sig .tc).ty.Contents (Elt F) := k0_pay2 (tile m ρ c) (tile m ρ (partner c))

/-- The two-slot contents at an element of slot 0 are the tile's, -/
theorem both_near (p : Vec F S1x4x128 .f32) (x : S1x4x128.Idx) : both p (near.emb x) = p x := by
  refine congrArg p (funext fun a => Fin.ext ?_)
  have := (x a).isLt
  fin_cases a
  · simp [S1x4x128] at this; simp [ix3, this]
  · show 0 + 1 * (x 1).val = (x 1).val; omega
  · show 0 + 1 * (x 2).val = (x 2).val; omega
/-- and so they are at an element of slot 1. -/
theorem both_far (p : Vec F S1x4x128 .f32) (x : S1x4x128.Idx) : both p (far.emb x) = p x := by
  refine congrArg p (funext fun a => Fin.ext ?_)
  have := (x a).isLt
  fin_cases a
  · simp [S1x4x128] at this; simp [ix3, this]
  · show 0 + 1 * (x 1).val = (x 1).val; omega
  · show 0 + 1 * (x 2).val = (x 2).val; omega

/-- A load of slot 0 from that content reads the tile, -/
theorem load_near (p : Vec F S1x4x128 .f32) : commM.view.readAt (Elt F) near.toLoadRect (both p) = p := funext fun x => both_near p x
/-- and so does a load of slot 1. -/
theorem load_far (p : Vec F S1x4x128 .f32) : commM.view.readAt (Elt F) far.toLoadRect (both p) = p := funext fun x => both_far p x

/-- Storing a tile through slot 0 leaves, on slot 0, the tile: whatever the buffer held. -/
theorem stored_near (f : Comm F) (p : Vec F S1x4x128 .f32) :
    ∀ i ∈ nearM.view.set, (commM.access near : View sig .tc _ _ _).write (Elt F) f p Finset.univ i = both p i := by
  intro i hi
  rw [nearM_set, ← Rect.map_emb_univ, Finset.mem_map] at hi
  obtain ⟨x, -, rfl⟩ := hi
  refine ((commM.access near : View sig .tc _ _ _).write_emb_of_mem f p (Finset.mem_univ x)).trans ?_
  exact (both_near p x).symm

/-- A copy of slot 0 into another device's slot 1 leaves, on slot 1, the tile: whatever that buffer held. -/
theorem landed_far (f : Comm F) (p : Vec F S1x4x128 .f32) :
    ∀ i ∈ farM.view.set, farM.view.write (Elt F) f (nearM.view.read (Elt F) (both p)) Finset.univ i = both p i := by
  intro i hi
  obtain ⟨y, -, rfl⟩ := Finset.mem_map.1 hi
  refine (farM.view.write_emb_of_mem f _ (Finset.mem_univ y)).trans ?_
  exact (both_near p _).trans (both_far p _).symm

/-! ## Holding a slot -/

/-- Share `q` of device `c`'s slot 0, at contents `f`. -/
def nearAt (q : PosShare TreeShare) (c : Dev nD) (f : Comm F) : sProp 𝕄 := nearM.view.loc (c : Thread nD τ) ↦[nearM.view.set]{q} f
/-- The whole of device `c`'s slot 1, at contents `f`. -/
def farAt (c : Dev nD) (f : Comm F) : sProp 𝕄 := farM.view.loc (c : Thread nD τ) ↦[farM.view.set]{fullShare} f

omit [FloatOps F] in
instance nearAt_storable (q : PosShare TreeShare) (c : Dev nD) (f : Comm F) : BI.Storable (upEmb : UEmb _ 𝕄) (nearAt q c f) := by
  unfold nearAt; infer_instance
omit [FloatOps F] in
instance farAt_storable (c : Dev nD) (f : Comm F) : BI.Storable (upEmb : UEmb _ 𝕄) (farAt c f) := by unfold farAt; infer_instance

omit [FloatOps F] in
/-- The scratch buffer is its two slots. -/
theorem split_slots (c : Dev nD) (f : Comm F) :
    (((c : Thread nD τ).loc cc0_scratch0) ↦{fullShare} f : sProp 𝕄) ⊢ iprop(nearAt fullShare c f ∗ farAt c f) := by
  unfold nearAt farAt
  rw [nearM_set, farM_set, ← slots_cover]
  exact (pointsTo_union slots_disjoint).1

omit [FloatOps F] in
/-- The two slots, at contents of their own, are the scratch buffer at some contents. -/
theorem join_slots (c : Dev nD) (f g : Comm F) :
    iprop(nearAt fullShare c f ∗ farAt c g) ⊢ (iprop(∃ h, ((c : Thread nD τ).loc cc0_scratch0) ↦{fullShare} h) : sProp 𝕄) := by
  unfold nearAt farAt
  rw [nearM_set, farM_set]
  iintro H
  ihave H' := (pointsTo_join slots_disjoint) $$ H
  rw [slots_cover]
  iexists _; iexact H'

omit [FloatOps F] in
/-- Slot 0 is its two half shares. -/
theorem halves (c : Dev nD) (f : Comm F) :
    (nearAt fullShare c f : sProp 𝕄) ⊣⊢ iprop(nearAt fullShare.left c f ∗ nearAt fullShare.right c f) :=
  pointsTo_share (PosShare.mem_left_op_right fullShare)

/-! ## The schedule -/

/-- What the payment of semaphore `k` of device `c` hands to `c`. At the barrier, paid by the partner's signal: the
    partner's slot 1. At the send semaphore, paid when the copy has left: the half share of slot 0 the copy read. At
    the receive semaphore, paid when the partner's copy has landed: slot 1 holding the partner's tile. -/
def handed (c : Dev nD) (k : Fin 3) : sProp 𝕄 :=
  if k = 0 then iprop(∃ f, farAt (partner c) f)
  else if k = 1 then nearAt fullShare.right c (both (tile m ρ c))
  else farAt c (both (tile m ρ (partner c)))

instance handed_storable (c : Dev nD) (k : Fin 3) : BI.Storable (upEmb : UEmb _ 𝕄) (handed m ρ c k) := by
  unfold handed; (repeat' split) <;> infer_instance

/-- One round, with one payment per semaphore of the exchange. -/
def sched : Rounds.Schedule (GSem nD τ sig) Unit 𝕄 where
  duties g r := if r = 0 ∧ g.1.2 = .tc ∧ ∃ k, g.2 = semOf k then {()} else ∅
  unitless _ := False
  amount g _ _ := units (kindOf g.2)
  payload g _ _ := handed m ρ g.1.1 (kindOf g.2)
  amount_pos g _ _ _ := units_pos (kindOf g.2)

instance sched_storable (g : GSem nD τ sig) (r : ℕ) (d : Unit) : BI.Storable (upEmb : UEmb _ 𝕄) ((sched m ρ).payload g r d) := by
  show BI.Storable (upEmb : UEmb _ 𝕄) (handed m ρ g.1.1 (kindOf g.2)); infer_instance

theorem duties_cell (c : Dev nD) (k : Fin 3) : (sched m ρ).duties (cell c k) 0 = {()} := if_pos ⟨rfl, rfl, k, rfl⟩

theorem duty_mem (c : Dev nD) (k : Fin 3) : () ∈ (sched m ρ).duties (cell c k) 0 := by
  rw [duties_cell]; exact Finset.mem_singleton_self _

/-- There is no second round. -/
theorem duties_later (g : GSem nD τ sig) (r : ℕ) (h : 1 ≤ r) : (sched m ρ).duties g r = ∅ := if_neg fun h' => by omega

theorem amount_cell (c : Dev nD) (k : Fin 3) : (sched m ρ).amount (cell c k) 0 () = units k := congrArg units (kindOf_semOf k)

theorem payload_cell (c : Dev nD) (k : Fin 3) : (sched m ρ).payload (cell c k) 0 () = handed m ρ c k :=
  congrArg (handed m ρ c) (kindOf_semOf k)

theorem expect_cell (c : Dev nD) (k : Fin 3) : (sched m ρ).expect (cell c k) 0 = units k := by
  show ∑ d ∈ (sched m ρ).duties (cell c k) 0, (sched m ρ).amount (cell c k) 0 d = units k
  rw [duties_cell, Finset.sum_singleton]; exact amount_cell m ρ c k

/-- The round's payments, none taken before: the one payload. -/
theorem rest_cell (c : Dev nD) (k : Fin 3) :
    bigSep ((sched m ρ).duties (cell c k) 0 \ ∅) (fun d => (sched m ρ).payload (cell c k) 0 d) = handed m ρ c k := by
  rw [Finset.sdiff_empty, duties_cell, bigSep_singleton]; exact payload_cell m ρ c k

/-! ## Dues and levels -/

/-- What device `c` owes once it has signalled: its copy's credit at the partner's receive semaphore. -/
def owesCopy (c : Dev nD) : CellTallies nD τ sig Unit := tallyAt (cell (partner c) 2) () tileUnits
/-- What it owes at launch: that, and the signal at the partner's barrier. -/
def owesAll (c : Dev nD) : CellTallies nD τ sig Unit := owesCopy c + tallyAt (cell (partner c) 0) () 1

/-- Only the semaphores of a TensorCore carry an index. -/
def levelled (g : GSem nD τ sig) : Finset Unit := if g.1.2 = .tc then {()} else ∅
/-- The order of waits: staging and send semaphores first, then the barrier, then the receive semaphore. -/
def level (g : GSem nD τ sig) (_ : Unit) : ℕ := if g.2 = semOf 0 then 1 else if g.2 = semOf 2 then 2 else 0

theorem levelled_tc (c : Dev nD) (s : SemLoc sig) : levelled ((c : Thread nD τ), s) = {()} := if_pos rfl

theorem owesCopy_at {c : Dev nD} {g : GSem nD τ sig} {u : Unit} (h : 0 < owesCopy c g u) : g = cell (partner c) 2 := by
  by_contra hne
  rw [owesCopy, tallyAt_apply, if_neg fun e => hne e.1] at h
  exact absurd h (lt_irrefl 0)

theorem owesAll_at {c : Dev nD} {g : GSem nD τ sig} {u : Unit} (h : 0 < owesAll c g u) : ∃ k, 0 < level g u ∧ g = cell (partner c) k := by
  by_cases h2 : 0 < owesCopy c g u
  · obtain rfl := owesCopy_at h2
    exact ⟨2, show 0 < (if semOf 2 = semOf 0 then 1 else if semOf 2 = semOf 2 then 2 else 0) by decide, rfl⟩
  · have h0 : 0 < tallyAt (cell (partner c) 0) () 1 g u := by
      have e : owesAll c g u = owesCopy c g u + tallyAt (cell (partner c) 0) () 1 g u := rfl
      omega
    have : g = cell (partner c) 0 := by
      by_contra hne
      rw [tallyAt_apply, if_neg fun e => hne e.1] at h0
      exact absurd h0 (lt_irrefl 0)
    subst this
    exact ⟨0, show 0 < (if semOf 0 = semOf 0 then 1 else if semOf 0 = semOf 2 then 2 else 0) by decide, rfl⟩

omit [FloatOps F] in
/-- A staging semaphore may be waited for at any time: what is owed lies above it. -/
theorem may_stage (c : Dev nD) (q : DmaSem sig) (hq : SemLoc.dma q ≠ semOf 2) {O : CellTallies nD τ sig Unit} (hO : O = owesAll c ∨ O = 0) :
    (levAts levelled level : sProp 𝕄) ⊢ MayWait (c : Thread nD τ) (.dma q) () O := by
  rcases hO with rfl | rfl
  · refine MayOwe.of_cut (L := levelled) (lev := level) 0 ?_ ?_ ?_ ?_
    · intro p hp; rw [Finset.mem_singleton.mp hp, levelled_tc]; exact Finset.mem_singleton_self _
    · intro g u hg; obtain ⟨k, -, rfl⟩ := owesAll_at hg; exact Finset.mem_singleton_self _
    · intro p hp; rw [Finset.mem_singleton.mp hp]
      show (if SemLoc.dma q = semOf 0 then 1 else if SemLoc.dma q = semOf 2 then 2 else 0) ≤ 0
      rw [if_neg (fun h => by cases h), if_neg hq]
    · intro g u hg; exact (owesAll_at hg).choose_spec.1
  · rw [MayWait_zero]; iintro -; iempintro

omit [FloatOps F] in
/-- The barrier may be waited for while the copy is owed: the receive semaphore lies above it. -/
theorem may_barrier (c : Dev nD) : (levAts levelled level : sProp 𝕄) ⊢ MayWait (c : Thread nD τ) (.reg barS) () (owesCopy c) := by
  refine MayOwe.of_cut (L := levelled) (lev := level) 1 ?_ ?_ ?_ ?_
  · intro p hp; rw [Finset.mem_singleton.mp hp, levelled_tc]; exact Finset.mem_singleton_self _
  · intro g u hg; obtain rfl := owesCopy_at hg; exact Finset.mem_singleton_self _
  · intro p hp; rw [Finset.mem_singleton.mp hp]; exact le_of_eq (if_pos rfl)
  · intro g u hg; obtain rfl := owesCopy_at hg
    show 1 < (if semOf 2 = semOf 0 then 1 else if semOf 2 = semOf 2 then 2 else 0); decide

end Cert.KernelIdeal.Exchange

end
-- ==== Proof.KernelIdeal.Body.lean ====
/-
# The kernel body on one device

The body runs from the state the launch hands a device to the state it leaves, one rule per memory operation in program
order: signal the partner's barrier (handing over slot 1), reduce the block into slot 0, wait for the partner's signal
(receiving its slot 1), start the copy (giving it half of slot 0), wait for the partner's tile, combine the two tiles,
and wait until the own copy has left (getting the half back).
-/
module

public import proofs.«01_k».proof.Proof.KernelIdeal.Schedule

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What a device holds before and after -/

/-- What every device may know of every semaphore of the exchange: its invariant, under the name `K` gives it, and that
    it has reached its round. -/
def known (K : Dev nD × Fin 3 → ℕ) : sProp 𝕄 :=
  iprop((bigSep Finset.univ fun x : Dev nD × Fin 3 => cellInv ER (sched m ρ) (K x) (cell x.1 x.2))
    ∗ bigSep Finset.univ fun x : Dev nD × Fin 3 => reached ER (cell x.1 x.2) 0)

instance known_persistent (K : Dev nD × Fin 3 → ℕ) : BI.Persistent (known m ρ K) := by unfold known; infer_instance

theorem known_inv (K : Dev nD × Fin 3 → ℕ) (c : Dev nD) (k : Fin 3) : known m ρ K ⊢ cellInv ER (sched m ρ) (K (c, k)) (cell c k) := by
  unfold known
  iintro ⟨H, -⟩
  iapply (show (bigSep Finset.univ fun x : Dev nD × Fin 3 => (cellInv ER (sched m ρ) (K x) (cell x.1 x.2) : sProp 𝕄)) ⊢ cellInv ER (sched m ρ) (K (c, k)) (cell c k)
    from bigSep_elim (Finset.mem_univ (c, k)))
  iexact H
theorem known_reached (K : Dev nD × Fin 3 → ℕ) (c : Dev nD) (k : Fin 3) : known m ρ K ⊢ reached ER (cell c k) 0 := by
  unfold known
  iintro ⟨-, H⟩
  iapply (show (bigSep Finset.univ fun x : Dev nD × Fin 3 => (reached ER (cell x.1 x.2) 0 : sProp 𝕄)) ⊢ reached ER (cell c k) 0
    from bigSep_elim (Finset.mem_univ (c, k)))
  iexact H

/-- The device's place at each of its own three semaphores. -/
def places (c : Dev nD) : sProp 𝕄 := iprop(atPos ER (cell c 0) 0 ∅ 0 ∗ atPos ER (cell c 1) 0 ∅ 0 ∗ atPos ER (cell c 2) 0 ∅ 0)
/-- The right to make the three payments that fall to the device: its signal, its copy's leaving, its copy's landing. -/
def payments (c : Dev nD) : sProp 𝕄 :=
  iprop(dutyTok ER (cell (partner c) 0) 0 () ∗ dutyTok ER (cell c 1) 0 () ∗ dutyTok ER (cell (partner c) 2) 0 ())
/-- The part of the exchange's state a device starts with. -/
def exchange (K : Dev nD × Fin 3 → ℕ) (c : Dev nD) : sProp 𝕄 := iprop(known m ρ K ∗ places c ∗ payments c)
/-- All a device starts with, its scratch buffer apart: that, the credit of its two waits that others pay, and the levels. -/
def start (c : Dev nD) : sProp 𝕄 :=
  iprop((∃ K, exchange m ρ K c) ∗ cred (tallyAt (cell c 0) () 1) ∗ cred (tallyAt (cell c 2) () tileUnits) ∗ levAts levelled level)

/-- The scratch buffer, whole, at some contents. -/
def scratch (c : Dev nD) : sProp 𝕄 := iprop(∃ f, ((c : Thread nD τ).loc cc0_scratch0) ↦{fullShare} f)
/-- Before the body. -/
def before (c : Dev nD) : sProp 𝕄 := iprop(start m ρ c ∗ scratch c)
/-- After it: the scratch buffer, and the three semaphores at zero. -/
def afterwards (c : Dev nD) : sProp 𝕄 := iprop(scratch c ∗ semVal (cell c 0) 0 ∗ semVal (cell c 1) 0 ∗ semVal (cell c 2) 0)

/-- The launch's record of the kernel on device `c`: the arrays as they lie at launch, the staging buffers after the body
    (the block of `x` unchanged, the result), what is held and owed before and after. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => block m ρ c
    | ⟨1, _⟩ => result m ρ c
  Φ t := match t with
    | ⟨0, _⟩ => before m ρ c
    | ⟨_ + 1, _⟩ => afterwards c
  q _ := fullShare
  owed t := match t with
    | ⟨0, _⟩ => owesAll c
    | ⟨_ + 1, _⟩ => 0

theorem after_out (c : Dev nD) : (dats m ρ 0 c).after (1 : Fin 2) t0_0 = result m ρ c := by dsimp only [dats]

/-- The staging buffer `b` of device `c`, whole, holding `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_staged (c : Dev nD) (b : Ref sig .tc) (X : b.ty.Contents (Elt F)) :
    (owns (c : Thread nD τ) (Memref.whole b) fullShare X : sProp 𝕄) = staged c b X := by
  unfold owns; simp only [Memref.view_whole, View.read_whole, View.set_whole]

/-! ## The accesses -/

theorem zeros : (![0, 0] : Fin 2 → Nat) = fun _ => 0 := funext fun a => by fin_cases a <;> rfl

abbrev xRect : Rect S512x256 := Rect.unit (s := S512x256) ![0, 0] S512x256.size inb_S512x256_S512x256_0_0
abbrev oRect : Rect S512x1 := Rect.unit (s := S512x1) ![0, 0] S512x1.size inb_S512x1_S512x1_0_0

theorem load_x (f : (cc0_stg0_0 : Ref sig .tc).ty.Contents (Elt F)) : (xM : Memref sig .tc .vmem S512x256 .f32).view.readAt (Elt F) xRect.toLoadRect f = f :=
  Memref.readAt_unit_zero (Elt F) cc0_stg0_0 zeros _ f
theorem store_out (f w : (cc0_stg1_0 : Ref sig .tc).ty.Contents (Elt F)) :
    ((oM : Memref sig .tc .vmem S512x1 .f32).access oRect : View sig .tc _ _ _).write (Elt F) f w Finset.univ = w :=
  Memref.write_access_unit_zero_univ (Elt F) cc0_stg1_0 zeros _ f w

/-- A load or a store of slot 0 stays in slot 0, -/
theorem touch_near : (commM.access near : View sig .tc _ _ _).set ⊆ nearM.view.set := by
  rw [nearM_set]; exact subset_of_eq (View.set_slice_whole cc0_scratch0 near)
/-- and one of slot 1 in slot 1. -/
theorem touch_far : (commM.access far : View sig .tc _ _ _).set ⊆ farM.view.set := by
  rw [farM_set]; exact subset_of_eq (View.set_slice_whole cc0_scratch0 far)

/-- After an access a slot is held as before it. -/
theorem back_near (q : PosShare TreeShare) (c : Dev nD) (f : Comm F) :
    ((commM.access near).loc (c : Thread nD τ) ↦[nearM.view.set]{q} f : sProp 𝕄) ⊢ nearAt q c f := BI.Entails.refl _
theorem back_far (c : Dev nD) (f : Comm F) :
    ((commM.access far).loc (c : Thread nD τ) ↦[farM.view.set]{fullShare} f : sProp 𝕄) ⊢ farAt c f := BI.Entails.refl _

/-- The store of the reduced block leaves slot 0 holding the device's tile. -/
theorem stored_slot (c : Dev nD) (f : Comm F) :
    ((commM.access near).loc (c : Thread nD τ) ↦[nearM.view.set]{fullShare} ((commM.access near).write (Elt F) f (k0_pay1 (block m ρ c)) Finset.univ) : sProp 𝕄)
      ⊢ nearAt fullShare c (both (tile m ρ c)) := Entails.of_eq (pointsTo_congr (stored_near f (tile m ρ c)))

/-! ## The payments, as the body meets them -/

/-- The signal to the partner may be paid with the device's own slot 1. -/
theorem signal_hands (c : Dev nD) (f : Comm F) : farAt c f ⊢ (sched m ρ).payload ((partner c : Thread nD τ), .reg barS) 0 () := by
  rw [show (sched m ρ).payload ((partner c : Thread nD τ), .reg barS) 0 () = handed m ρ (partner c) 0 from payload_cell m ρ (partner c) 0]
  show farAt c f ⊢ iprop(∃ g, farAt (partner (partner c)) g)
  rw [partner_partner]
  iintro H; iexists f; iexact H
/-- The wait at the barrier hands over the partner's slot 1. -/
theorem barrier_hands (c : Dev nD) :
    bigSep ((sched m ρ).duties ((c : Thread nD τ), .reg barS) 0 \ ∅) (fun d => (sched m ρ).payload ((c : Thread nD τ), .reg barS) 0 d)
      ⊢ iprop(∃ f, farAt (partner c) f) := Entails.of_eq (rest_cell m ρ c 0)
/-- The wait at the send semaphore hands back the half of slot 0 the copy read. -/
theorem send_hands (c : Dev nD) :
    bigSep ((sched m ρ).duties ((c : Thread nD τ), .dma sendS) 0 \ ∅) (fun d => (sched m ρ).payload ((c : Thread nD τ), .dma sendS) 0 d)
      ⊢ nearAt fullShare.right c (both (tile m ρ c)) := Entails.of_eq (rest_cell m ρ c 1)
/-- The wait at the receive semaphore hands over slot 1 with the partner's tile. -/
theorem receive_hands (c : Dev nD) :
    bigSep ((sched m ρ).duties ((c : Thread nD τ), .dma recvS) 0 \ ∅) (fun d => (sched m ρ).payload ((c : Thread nD τ), .dma recvS) 0 d)
      ⊢ farAt c (both (tile m ρ (partner c))) := Entails.of_eq (rest_cell m ρ c 2)

/-- The copy, addressed to `d`, the partner: it takes half of slot 0 and the partner's slot 1, pays at the own send
    semaphore and at the partner's receive semaphore, and leaves the device owing nothing and with the credit of the
    wait for its leaving. -/
theorem wp_copy (K : Dev nD × Fin 3 → ℕ) (c d : Dev nD) (hd : d = partner c)
    {hsc : (farM : Memref sig (Dev.tc d : Thread nD τ).2.kind .vmem S4x128 .f32).view.ref.isScScratch = false}
    {hsrc : (nearM : Memref sig .tc .vmem S4x128 .f32).view.WordExact} {hdst : (farM : Memref sig .tc .vmem S4x128 .f32).view.WordExact}
    {hsem : DmaTarget.Typed .vmem (.dma recvS) (.remote (Dev.tc d : Thread nD τ) (farM : Memref sig .tc .vmem S4x128 .f32) (.dma sendS) hsc)}
    {α : Type} {Q : α → sProp 𝕄} {k : PUnit → Prog (TpuEff nD τ sig (Elt F) Λ₀ .tc) α}
    (g : Comm F) (W : Waits sig Unit) :
    iprop(known m ρ K ∗ nearAt fullShare.right c (both (tile m ρ c)) ∗ farAt (partner c) g
        ∗ owes (c : Thread nD τ) (owesCopy c) W
        ∗ dutyTok ER (cell c 1) 0 () ∗ dutyTok ER (cell (partner c) 2) 0 ())
      ⊢ iprop(((cred (tallyAt (cell c 1) () tileUnits) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma nearM (.remote (Dev.tc d : Thread nD τ) farM (.dma sendS) hsc) (.dma recvS) hsrc hdst hsem) k) Q) := by
  subst hd
  iintro ⟨#HK, Hn, Hf, HO, HtS, HtR⟩
  unfold nearAt farAt
  iapply (Rounds.wp_send_pointsTo 𝒱₀ ER (sched m ρ) (c : Thread nD τ) none (κ₁ := K (c, 1)) (κ₂ := K (partner c, 2))
    (r₁ := 0) (r₂ := 0) (d₁ := ()) (d₂ := ()) (fd := g) (duty_mem m ρ c 1) (duty_mem m ρ (partner c) 2)
    () () tileUnits rfl (amount_cell m ρ c 1) (amount_cell m ρ (partner c) 2) 0 (by rw [zero_add]) (W := W)
    (by rw [payload_cell]; exact BI.Entails.refl _)
    (by rw [payload_cell]; show _ ⊢ farAt (partner c) (both (tile m ρ (partner (partner c))))
        rw [partner_partner]; unfold farAt
        exact Entails.of_eq (pointsTo_congr (landed_far g (tile m ρ c)))))
  isplitr; · iapply (known_inv m ρ K c 1); iexact HK
  isplitr; · iapply (known_inv m ρ K (partner c) 2); iexact HK
  isplitl [Hn]; · iexact Hn
  isplitl [Hf]; · iexact Hf
  isplitl [HO]; · iexact HO
  isplitl [HtS]; · iexact HtS
  isplitr; · iapply (known_reached m ρ K c 1); iexact HK
  isplitl [HtR]; · iexact HtR
  iapply (known_reached m ρ K (partner c) 2); iexact HK

/-! ## The body -/

/-- What the body starts from, and -/
def bodyPre (c : Dev nD) : sProp 𝕄 :=
  iprop(before m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
/-- what it leaves. -/
def bodyPost (c : Dev nD) : sProp 𝕄 :=
  iprop(afterwards c ∗ (dats m ρ 0 c).owesAt () t0_0.succ ∗ staged c cc0_stg0_0 (block m ρ c) ∗ staged c cc0_stg1_0 (result m ρ c))

set_option maxHeartbeats 1000000 in
/-- The body takes the one to the other. -/
theorem body_run (c : Dev nD) :
    bodyPre m ρ c
      ⊢ wp frame (wpE (defs₀ (F := F)) 𝒱₀ c none) Set.univ
          (cc0_body xM (Memref.isWhole_whole _) oM (Memref.isWhole_whole _) commM (Memref.isWhole_whole _) cc0_scratch1 cc0_scratch2)
          (fun _ => bodyPost m ρ c) := by
  rw [cc0_body_eq_skeleton]; unfold cc0_body_skel
  rw [k0_part2_eq_skeleton]; unfold k0_part2_skel
  rw [k0_part1_eq_skeleton]; unfold k0_part1_skel
  simp only [semSignalWord, semWaitWord, Prog.lift, Prog.bind_op, Prog.bind_ret, Prog.pure_eq_ret, wp_deviceId]
  unfold bodyPre before start exchange places payments scratch
  iintro ⟨⟨⟨⟨%K, #HK, ⟨HaB, HaS, HaR⟩, HtB, HtS, HtR⟩, HcB, HcR, #Hlev⟩, ⟨%f0, Hscr⟩⟩, Ho, ⟨%d0, %g0, %hg0, Hx⟩, ⟨%d1, %g1, %hg1, Hout⟩⟩
  have hx : g0 = block m ρ c := by rw [hg0]; unfold Dat.before; rw [if_pos (by rfl)]; rfl
  subst hx
  unfold Dat.owesAt Pipeline.owesWithin
  icases Ho with ⟨%W, %hW, HO⟩
  rw [show (dats m ρ 0 c).owed t0_0.castSucc = owesAll c from rfl]
  ihave Hsl := (split_slots c f0) $$ Hscr
  icases Hsl with ⟨Hn, Hf⟩
  simp only [signalled c]
  -- the signal: slot 1 goes to the partner
  iapply (Rounds.wp_signal 𝒱₀ ER (sched m ρ) (c : Thread nD τ) none (dst := (partner c : Thread nD τ)) (κ := K (partner c, 0))
      (d := ()) (duty_mem m ρ (partner c) 0) ((amount_cell m ρ (partner c) 0).trans (by decide)) () (owesCopy c) rfl) $$ [HO HtB Hf]
  · isplitr; · iapply (known_inv m ρ K (partner c) 0); iexact HK
    isplitl [HO]; · iexact HO
    isplitl [HtB]; · iexact HtB
    isplitl [Hf]
    · iapply (signal_hands m ρ c f0); iexact Hf
    iapply (known_reached m ρ K (partner c) 0); iexact HK
  iintro HO
  -- the block is reduced into slot 0
  iapply (wp_load 𝒱₀ (c : Thread nD τ) none Set.univ (m := xM) (Finset.subset_univ _)) $$ Hx; iintro Hx
  rw [load_x]
  unfold nearAt
  iapply (wp_load_rect 𝒱₀ (c : Thread nD τ) none Set.univ (m := commM) (r := near) touch_near) $$ Hn; iintro Hn
  iapply (wp_store 𝒱₀ (c : Thread nD τ) none Set.univ (m := commM) (r := near) (Mk := Finset.univ) touch_near) $$ Hn; iintro Hn
  ihave Hn := (stored_slot m ρ c f0) $$ Hn
  -- the wait for the partner's signal: its slot 1
  iapply (Rounds.wp_wait_rest_token 𝒱₀ ER (sched m ρ) (c : Thread nD τ) none (κ := K (c, 0))
      (wpE_semWait_eq 𝒱₀ (c : Thread nD τ) none Set.univ) (Set.mem_univ _) () (O := owesCopy c) (W := W) (R := 0) (m := 0) (T := ∅)
      (expect_cell m ρ c 0).symm) $$ [HcB HO HaB]
  · isplitr; · iapply (known_inv m ρ K c 0); iexact HK
    isplitl [HcB]; · iexact HcB
    isplitl [HO]; · iexact HO
    isplitr; · iapply (may_barrier c); iexact Hlev
    iexact HaB
  iintro ⟨HO, HaB, -, Hpay⟩
  ihave Hp := (barrier_hands m ρ c) $$ Hpay
  icases Hp with ⟨%fp, Hf⟩
  -- the copy, from one half of slot 0
  ihave Hn := (halves c (both (tile m ρ c))).1 $$ Hn
  icases Hn with ⟨HnL, HnR⟩
  iapply (wp_copy m ρ K c _ (addressed c) fp (insert (SemLoc.reg barS, ()) W)) $$ [HnR Hf HO HtS HtR]
  · isplitr; · iexact HK
    isplitl [HnR]; · iexact HnR
    isplitl [Hf]; · iexact Hf
    isplitl [HO]; · iexact HO
    isplitl [HtS] <;> iassumption
  iintro ⟨HcS, HO⟩
  -- the wait for the partner's tile
  iapply (Rounds.wp_wait_rest_token 𝒱₀ ER (sched m ρ) (c : Thread nD τ) none (κ := K (c, 2))
      (wpE_waitDma2_eq 𝒱₀ (c : Thread nD τ) none Set.univ) (Set.mem_univ _) () (O := 0) (W := insert (SemLoc.reg barS, ()) W) (R := 0) (m := 0) (T := ∅)
      (by rw [Nat.zero_add]; exact (expect_cell m ρ c 2).symm)) $$ [HcR HO HaR]
  · isplitr; · iapply (known_inv m ρ K c 2); iexact HK
    isplitl [HcR]; · iexact HcR
    isplitl [HO]; · iexact HO
    isplitr; · rw [MayWait_zero]; iempintro
    iexact HaR
  iintro ⟨HO, HaR, -, Hpay⟩
  ihave Hf := (receive_hands m ρ c) $$ Hpay
  -- the two tiles are combined
  unfold nearAt farAt
  iapply (wp_load_rect 𝒱₀ (c : Thread nD τ) none Set.univ (m := commM) (r := near) touch_near) $$ HnL; iintro HnL
  ihave HnL := (back_near _ c _) $$ HnL
  iapply (wp_load_rect 𝒱₀ (c : Thread nD τ) none Set.univ (m := commM) (r := far) touch_far) $$ Hf; iintro Hf
  ihave Hf := (back_far c _) $$ Hf
  iapply (wp_load 𝒱₀ (c : Thread nD τ) none Set.univ (m := oM) (Finset.subset_univ _)) $$ Hout; iintro Hout
  iapply (wp_store 𝒱₀ (c : Thread nD τ) none Set.univ (m := oM) (r := oRect) (Mk := Finset.univ) (Finset.subset_univ _)) $$ Hout; iintro Hout
  rw [store_out]
  -- the wait for the own copy to have left: the other half of slot 0
  iapply (Rounds.wp_wait_rest_token 𝒱₀ ER (sched m ρ) (c : Thread nD τ) none (κ := K (c, 1))
      (wpE_waitDma2_eq 𝒱₀ (c : Thread nD τ) none Set.univ) (Set.mem_univ _) () (O := 0)
      (W := insert (SemLoc.dma recvS, ()) (insert (SemLoc.reg barS, ()) W)) (R := 0) (m := 0) (T := ∅)
      (by rw [Nat.zero_add]; exact (expect_cell m ρ c 1).symm)) $$ [HcS HO HaS]
  · isplitr; · iapply (known_inv m ρ K c 1); iexact HK
    isplitl [HcS]; · iexact HcS
    isplitl [HO]; · iexact HO
    isplitr; · rw [MayWait_zero]; iempintro
    iexact HaS
  iintro ⟨HO, HaS, -, Hpay⟩
  ihave HnR := (send_hands m ρ c) $$ Hpay
  -- the three semaphores are finished with: their counters are zero
  imod (Rounds.cell_close ER (sched m ρ) (Set.mem_univ (K (c, 0))) (fun h => h) (R := 0 + 1) (duties_later m ρ (cell c 0))) $$ [HaB] with HzB
  · isplitr; · iapply (known_inv m ρ K c 0); iexact HK
    iexact HaB
  imod (Rounds.cell_close ER (sched m ρ) (Set.mem_univ (K (c, 1))) (fun h => h) (R := 0 + 1) (duties_later m ρ (cell c 1))) $$ [HaS] with HzS
  · isplitr; · iapply (known_inv m ρ K c 1); iexact HK
    iexact HaS
  imod (Rounds.cell_close ER (sched m ρ) (Set.mem_univ (K (c, 2))) (fun h => h) (R := 0 + 1) (duties_later m ρ (cell c 2))) $$ [HaR] with HzR
  · isplitr; · iapply (known_inv m ρ K c 2); iexact HK
    iexact HaR
  rw [wp_ret]; imodintro
  unfold bodyPost afterwards scratch Dat.owesAt Pipeline.owesWithin
  rw [show (dats m ρ 0 c).owed t0_0.succ = 0 from rfl]
  isplitl [HnL HnR Hf HzB HzS HzR]
  · isplitl [HnL HnR Hf]
    · iapply (join_slots c (both (tile m ρ c)) (both (tile m ρ (partner c))))
      isplitl [HnL HnR]
      · iapply (halves c (both (tile m ρ c))).2
        isplitl [HnL] <;> iassumption
      iexact Hf
    isplitl [HzB]; · iexact HzB
    isplitl [HzS] <;> iassumption
  isplitl [HO]
  · iexists _
    isplitr; rotate_left; · iexact HO
    ipureintro; exact fun _ _ => Or.inl trivial
  isplitl [Hx]
  · iexists _; isplitr; · (ipureintro; rfl)
    iexact Hx
  iexists _; isplitr; rotate_left; · iexact Hout
  ipureintro
  exact congrArg₂ k0_pay2 (load_near (tile m ρ c)) (load_far (tile m ρ (partner c)))

set_option maxRecDepth 4000 in
/-- The body keeps the launch's record. -/
theorem body_obligation (c : Dev nD) : BodyObligation (dats (F := F) m ρ 0 c) (defs₀ (F := F)) 𝒱₀ () Set.univ := fun t => by
  rw [fin_N0 t, bigSep_W0, bigSep_W0]
  simp only [owns_staged, after_out]
  show bodyPre m ρ c ⊢ wp frame (wpE (defs₀ (F := F)) 𝒱₀ c none) Set.univ
    (cc0_body xM (Memref.isWhole_whole _) oM (Memref.isWhole_whole _) commM (Memref.isWhole_whole _) cc0_scratch1 cc0_scratch2) (fun _ => bodyPost m ρ c)
  exact body_run m ρ c

end Cert.KernelIdeal.Exchange

end
-- ==== Proof.KernelIdeal.Launch.lean ====
/-
# The launch, and the run of the whole mesh

The body's starting state is made from what the launch provides: each of the twelve semaphores of the exchange gets its
invariant, all in one step, since a barrier and a receive semaphore are touched by both devices of a mesh row. The
rights to pay are then dealt to the payers: those of a device's barrier and receive semaphores go to its partner, that
of its send semaphore stays. The module ends in `run_main`, the statement about the program: every run ends, with the
result arrays holding the combined tiles, `x` unchanged and every semaphore at zero.
-/
module

public import proofs.«01_k».proof.Proof.KernelIdeal.Body
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores of the exchange -/

/-- The semaphore a pair of a device and a number names. -/
abbrev at' (x : Dev nD × Fin 3) : GSem nD τ sig := cell x.1 x.2

theorem at'_injective : Function.Injective at' := fun x y h => Prod.ext (cell_inj.1 h).1 (cell_inj.1 h).2

/-- The twelve semaphores, and the one payment of each. -/
def allCells : Finset (GSem nD τ sig) := Finset.univ.map ⟨at', at'_injective⟩
def allPayments : Finset (GSem nD τ sig × ℕ × Unit) :=
  Finset.univ.map ⟨fun x => (at' x, 0, ()), fun x y h => at'_injective (congrArg Prod.fst h)⟩

/-- The kernel's own semaphores: send and receive. -/
abbrev ownSem : Fin 2 → SemLoc sig := ![.dma sendS, .dma recvS]

theorem ownSem_facts : Pipeline.OwnSemFacts cfg0.spec ownSem := by decide

theorem three (Φ : Fin 3 → sProp 𝕄) : bigSep Finset.univ Φ = iprop(Φ 0 ∗ Φ 1 ∗ Φ 2) :=
  bigSep_univ_eq_bigSepL [0, 1, 2] (by decide) (by decide) Φ

/-- A device's three counters at zero are what the launch holds of it: its own semaphores', and the barrier's. -/
theorem counters (c : Dev nD) :
    iprop(unscopedSems0 c ∗ Pipeline.ownSems0 (Ix := Unit) (Name := ℕ) (U := UU) (Lvl := ℕ) (Val := Elt F) (τ := τ) ownSem c)
      = (bigSep Finset.univ fun k : Fin 3 => semVal (cell c k) 0 : sProp 𝕄) := by
  rw [three, Pipeline.ownSems0_eq_of_list c ownSem [0, 1] (by decide) (by decide)]
  unfold unscopedSems0; rw [bigSep_eq_bigSepL_of_eq [SemLoc.reg barS] (by decide) (by decide)]; rfl

/-! ## From the launch's state to the exchange's -/

/-- Per semaphore: its state and its owner's place before the first round, that it has reached that round, and the right
    to make its payment. -/
def minted (x : Dev nD × Fin 3) : sProp 𝕄 :=
  iprop(roundState ER (sched m ρ) (at' x) 0 ∗ atPos ER (at' x) 0 ∅ 0 ∗ reached ER (at' x) 0 ∗ dutyTok ER (at' x) 0 ())
/-- The same once its invariant stands. -/
def opened (x : Dev nD × Fin 3) : sProp 𝕄 :=
  iprop((∃ κ : ℕ, cellInv ER (sched m ρ) κ (at' x)) ∗ atPos ER (at' x) 0 ∅ 0 ∗ reached ER (at' x) 0 ∗ dutyTok ER (at' x) 0 ())

/-- The exchange's initial element mints all of it, device by device. -/
theorem mint : BI.own (ER (initOf allCells allPayments))
    ⊢ (|==> bigSep Finset.univ fun c : Dev nD => bigSep Finset.univ fun k : Fin 3 => minted m ρ (c, k) : sProp 𝕄) := by
  iintro H
  imod (Rounds.fund ER (sched m ρ) allCells allPayments) $$ H with ⟨Hst, Hr, Hat, Htok⟩
  imodintro
  rw [← bigSep_univ_prod (fun x : Dev nD × Fin 3 => minted m ρ x)]
  unfold minted allCells allPayments
  simp only [bigSep_map, bigSep_sep']
  isplitl [Hst]; · iexact Hst
  isplitl [Hat]; · iexact Hat
  isplitl [Hr] <;> iassumption

/-- A counter at zero and the minted state make the invariant. -/
theorem open_one (x : Dev nD × Fin 3) : iprop(semVal (at' x) 0 ∗ minted m ρ x) ⊢ (|={Set.univ}=> opened m ρ x : sProp 𝕄) := by
  unfold minted opened
  iintro ⟨Hv, Hst, Hrest⟩
  imod ((Rounds.body_intro ER (sched m ρ) (at' x)).trans (inv_alloc (E := Set.univ))) $$ [Hv Hst] with Hinv
  · isplitl [Hv] <;> iassumption
  imodintro
  isplitl [Hinv] <;> iassumption

/-- So every device's share of the launch opens its three semaphores. -/
theorem open_device (c : Dev nD) :
    iprop(Pipeline.ownSems0 (Ix := Unit) (Name := ℕ) (U := UU) (Lvl := ℕ) (Val := Elt F) (τ := τ) ownSem c ∗ unscopedSems0 c
        ∗ bigSep Finset.univ fun k : Fin 3 => minted m ρ (c, k))
      ⊢ (|={Set.univ}=> bigSep Finset.univ fun k : Fin 3 => opened m ρ (c, k) : sProp 𝕄) := by
  refine BI.Entails.trans (show _ ⊢ (_ : sProp 𝕄) from ?_) ((bigSep_mono fun k _ => open_one m ρ (c, k)).trans (bigSep_fupd _ _))
  rw [bigSep_sep', ← counters c]
  iintro ⟨Ho, Hu, Hm⟩
  isplitl [Ho Hu]
  · isplitl [Hu] <;> iassumption
  iexact Hm

/-- The rights to pay, dealt to the payers. -/
theorem deal : (bigSep Finset.univ fun x : Dev nD × Fin 3 => (dutyTok ER (at' x) 0 () : sProp 𝕄)) ⊢ bigSep Finset.univ fun c : Dev nD => payments c := by
  rw [bigSep_univ_prod (fun x : Dev nD × Fin 3 => (dutyTok ER (at' x) 0 () : sProp 𝕄))]
  simp only [three]
  unfold payments
  simp only [bigSep_sep']
  rw [bigSep_univ_equiv pairing (fun c : Dev nD => (dutyTok ER (cell c 0) 0 () : sProp 𝕄)),
    bigSep_univ_equiv pairing (fun c : Dev nD => (dutyTok ER (cell c 2) 0 () : sProp 𝕄))]
  exact BI.Entails.refl _

/-- The devices' places. -/
theorem all_places : (bigSep Finset.univ fun x : Dev nD × Fin 3 => (atPos ER (at' x) 0 ∅ 0 : sProp 𝕄)) ⊢ bigSep Finset.univ fun c : Dev nD => places c := by
  rw [bigSep_univ_prod (fun x : Dev nD × Fin 3 => (atPos ER (at' x) 0 ∅ 0 : sProp 𝕄))]
  simp only [three]
  unfold places
  exact BI.Entails.refl _

/-- What every device knows goes to each beside what is its own. -/
theorem share_known (K : Dev nD × Fin 3 → ℕ) :
    iprop(known m ρ K ∗ bigSep Finset.univ fun c : Dev nD => iprop(places c ∗ payments c))
      ⊢ bigSep Finset.univ fun c : Dev nD => (iprop(∃ K, exchange m ρ K c) : sProp 𝕄) := by
  refine (sep_mono_left (BI.bigSep_of_persistent (Finset.univ : Finset (Dev nD)) (known m ρ K))).trans ?_
  rw [← bigSep_sep']
  refine bigSep_mono fun c _ => show _ ⊢ (_ : sProp 𝕄) from ?_
  unfold exchange
  iintro H
  iexists K; iexact H

/-- The opened semaphores are every device's starting state. -/
theorem hand_out :
    (bigSep Finset.univ fun c : Dev nD => bigSep Finset.univ fun k : Fin 3 => opened m ρ (c, k) : sProp 𝕄)
      ⊢ bigSep Finset.univ fun c : Dev nD => iprop(∃ K, exchange m ρ K c) := by
  rw [← bigSep_univ_prod (fun x : Dev nD × Fin 3 => opened m ρ x)]
  unfold opened
  simp only [bigSep_sep']
  iintro ⟨HI, Hat, #HR, Htok⟩
  ihave HK := (BI.bigSep_exists_pi Finset.univ (fun (x : Dev nD × Fin 3) (κ : ℕ) => (cellInv ER (sched m ρ) κ (at' x) : sProp 𝕄))) $$ HI
  icases HK with ⟨%K, #HI⟩
  iapply (share_known m ρ K)
  isplitr
  · unfold known
    isplitr; · iexact HI
    iexact HR
  rw [bigSep_sep']
  isplitl [Hat]
  · iapply (all_places (F := F)); iexact Hat
  iapply (deal (F := F)); iexact Htok

/-- All devices' shares of the launch together open the exchange. -/
theorem open_all :
    (bigSep Finset.univ fun c : Dev nD => iprop(Pipeline.ownSems0 (Ix := Unit) (Name := ℕ) (U := UU) (Lvl := ℕ) (Val := Elt F) (τ := τ) ownSem c
        ∗ unscopedSems0 c ∗ bigSep Finset.univ fun k : Fin 3 => minted m ρ (c, k)) : sProp 𝕄)
      ⊢ |={Set.univ}=> bigSep Finset.univ fun c : Dev nD => iprop(∃ K, exchange m ρ K c) :=
  ((bigSep_mono fun c _ => open_device m ρ c).trans (bigSep_fupd _ _)).trans (BI.fupd_mono (hand_out m ρ))

/-! ## The launch's credit -/

/-- What others pay at device `c`'s semaphores. -/
def due (c : Dev nD) : CellTallies nD τ sig Unit := tallyAt (cell c 2) () tileUnits + tallyAt (cell c 0) () 1

theorem due_total : (∑ c, owesAll c) = ∑ c, due c :=
  Fintype.sum_equiv pairing _ _ fun _ => rfl

theorem due_own (c : Dev nD) (g : GSem nD τ sig) (h : due c g ≠ 0) : g.1 = (c : Thread nD τ) := by
  by_contra hne
  apply h
  unfold due
  rw [Pi.add_apply, tallyAt_ne_cell (fun e => hne (congrArg Prod.fst e)), tallyAt_ne_cell (fun e => hne (congrArg Prod.fst e)), add_zero]

theorem credit (c : Dev nD) : (Pipeline.launchCred owesAll c : sProp 𝕄) ⊢ iprop(cred (tallyAt (cell c 2) () tileUnits) ∗ cred (tallyAt (cell c 0) () 1)) := by
  rw [Pipeline.launchCred_of_sum owesAll due due_total due_own c]
  exact (cred_add _ _).1

/-! ## The launch theorem's conditions -/

theorem share_full (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts levelled level
        ∗ Pipeline.launchCred owesAll c ∗ prngReg c (ρ c) ∗ ∃ K, exchange m ρ K c)
      ⊢ |={Set.univ}=> iprop(start m ρ c ∗ emp) := by
  iintro ⟨-, Hlev, Hcr, -, HG⟩
  ihave Hc := (credit (F := F) c) $$ Hcr
  icases Hc with ⟨HcR, HcB⟩
  imodintro
  unfold start
  isplitl
  · isplitl [HG]; · iexact HG
    isplitl [HcB]; · iexact HcB
    isplitl [HcR] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before scratch
  iintro ⟨Hs, -, Hr⟩
  isplitl [Hs] <;> iassumption

theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = afterwards c from rfl, scopedRest0_eq]
  unfold afterwards scratch
  iintro ⟨Hr, Hz⟩
  ihave Hz := (Entails.of_eq ((three (F := F) fun k => semVal (cell c k) 0).symm.trans (counters c).symm)) $$ Hz
  icases Hz with ⟨Hu, Ho⟩
  isplitl [Hu]; · iexact Hu
  isplitl [Ho] <;> iassumption

theorem waits (c : Dev nD) : (levAts levelled level : sProp 𝕄) ⊢ Pipeline.cellsWaits cfgs (dats m ρ) () 0 c :=
  Pipeline.cellsWaits_intro cfgs (dats m ρ) () 0 c fun w s t =>
    may_stage c _ (by fin_cases w <;> fin_cases s <;> decide) (by
      rcases t with ⟨_ | _, ht⟩
      · exact Or.inl rfl
      · exact Or.inr rfl)

/-! ## The run -/

/-- The array of window `w` on device `c` when the run ends. -/
def finalArr (c : Dev nD) (w : Fin cfg0.W) : Buf (Elt F) ((cfg0.win w).arr.view.loc (c : Thread nD τ)) := (dats m ρ 0 c).arrAt w cfg0.N

set_option maxRecDepth 8000 in
/-- Every run of the four devices ends, with the windows' arrays at their final contents and every semaphore at zero. -/
theorem run_arrays : θ_run defs (onTc (τ := τ) (main (F := F))) (atLaunch m ρ) (fun r =>
    (∀ c : Dev nD, ∀ w : Fin cfg0.W, r.2.mem ((cfg0.win w).arr.view.loc (c : Thread nD τ)) = finalArr m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := owesAll) (howed₀ := fun _ => rfl) (howedN := fun _ => rfl)
    (L := levelled) (lv := level) (hL := fun g h => if_neg h) (hwaits := waits m ρ)
    (G := fun c => bigSep Finset.univ fun k : Fin 3 => minted m ρ (c, k)) (G' := fun c => iprop(∃ K, exchange m ρ K c))
    (u₀ := (initOf (Pipeline.cells cfgs cellOf_inj) (Pipeline.launchToks cfgs cellOf_inj), initOf allCells allPayments))
    (hu₀ := by
      iintro Hu
      ihave H := (ownU_pair _ _) $$ Hu
      icases H with ⟨HP, HX⟩
      imod (mint m ρ) $$ HX with HG
      imodintro
      isplitl [HP] <;> iassumption)
    (hglob := open_all m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The staged block is the device's array. -/
theorem block_eq (c : Dev nD) : block m ρ c = m ((c : Thread nD τ).loc main_arg0) := by
  funext x
  refine congrArg (m ((c : Thread nD τ).loc main_arg0)) (funext fun a => Fin.ext ?_)
  show 0 * _ + 1 * (x a).val = (x a).val
  rw [zero_mul, zero_add, one_mul]

/-- `x` ends as it was. -/
theorem final_x (c : Dev nD) : finalArr m ρ c (0 : Fin 2) = m ((c : Thread nD τ).loc main_arg0) :=
  (dats (F := F) m ρ 0 c).arrAt_in (0 : Fin 2) rfl _

/-- The result array ends at the combined tiles. -/
theorem final_out (c : Dev nD) : finalArr m ρ c (1 : Fin 2) = result m ρ c := by
  refine (dats (F := F) m ρ 0 c).arrAt_eq_of_covers (1 : Fin 2) _ (by decide +kernel) fun t hf y => ?_
  obtain rfl := fin_N0 t
  rw [after_out]
  blk_simp
  refine congrArg (result m ρ c) (funext fun a => Fin.ext ?_)
  show (y a).val = 0 * _ + 1 * (y a).val
  rw [zero_mul, zero_add, one_mul]

/-- Every run of the four devices ends. Then each device's result array holds its tile combined with its partner's, its
    block of `x` is unchanged, and every semaphore is at zero. -/
theorem run_main : θ_run defs (onTc (τ := τ) (main (F := F))) ⟨m, fun _ => 0, ρ⟩ (fun r =>
    (∀ c : Dev nD, r.2.mem ((c : Thread nD τ).loc main_v1) = result m ρ c
      ∧ r.2.mem ((c : Thread nD τ).loc main_arg0) = m ((c : Thread nD τ).loc main_arg0)) ∧ r.2.sem = fun _ => 0) :=
  (θ_run defs _ _).mono (fun r h => ⟨fun c => ⟨(h.1 c (1 : Fin 2)).trans (final_out m ρ c), (h.1 c (0 : Fin 2)).trans (final_x m ρ c)⟩, h.2⟩)
    (run_arrays m ρ)

end Cert.KernelIdeal.Exchange

end
-- ==== Proof.RowMax.lean ====
/-
# Maxima of rows of extended reals

The maximum of a row of an ideal array, `rowMax`, starts from minus infinity, which is what the word `0xFF800000` stands
for. Three facts about it are used: how it is read off a fold, that the maximum of a row with one entry kept and the
others set to minus infinity is that entry, and that the maximum of a row is the maximum of the maxima of its halves.
-/
module

public import Idealize.ShloMosaic.PureOps.Ideal
public import Idealize.ShloMosaic.Lib.WordCmp
public import Idealize.ShloMosaic.Lib.ValueIdx
public import Mathlib.Data.Finset.Lattice.Fold
public import Mathlib.Data.Finset.Fold

@[expose] public section

noncomputable section

namespace Cert.RowMax

open Idealize.ShloMosaic

/-- The greatest entry of a row of `n` extended reals, minus infinity if the row is empty. -/
def rowMax {n : ℕ} (f : Fin n → EReal) : EReal := Finset.univ.sup f

/-- The word both programs start a maximum from, `0xFF800000`, is minus infinity. -/
theorem start_eq_bot : Ideal.ofBits .f32 0xFF800000#32 = ⊥ := by simp [Ideal.ofBits, Ideal.ieee]

/-- A fold of `max` over all the entries, started from that word, is the row's maximum. -/
theorem fold_eq_rowMax {n : ℕ} (f : Fin n → EReal) :
    Finset.univ.fold max (Ideal.ofBits .f32 0xFF800000#32) f = rowMax f := by
  rw [start_eq_bot]; rfl

/-- A row that is minus infinity everywhere except at entry `k` has entry `k` for its maximum. -/
theorem rowMax_single {n : ℕ} (k : Fin n) (f g : Fin n → EReal) (hk : g k = f k) (hne : ∀ l, l ≠ k → g l = ⊥) :
    rowMax g = f k :=
  le_antisymm
    (Finset.sup_le fun l _ => by
      by_cases h : l = k
      · rw [h, hk]
      · rw [hne l h]; exact bot_le)
    (hk ▸ Finset.le_sup (f := g) (Finset.mem_univ k))

/-- The maximum of a row of `a + b` entries is the greater of the maxima of its first `a` and its last `b` entries. -/
theorem rowMax_halves {a b n : ℕ} (hn : n = a + b) (f : Fin n → EReal) :
    rowMax f = max (rowMax fun k : Fin a => f ⟨k.val, by omega⟩) (rowMax fun k : Fin b => f ⟨a + k.val, by omega⟩) := by
  refine le_antisymm (Finset.sup_le fun l _ => ?_) (max_le (Finset.sup_le fun k _ => ?_) (Finset.sup_le fun k _ => ?_))
  · by_cases h : l.val < a
    · exact le_max_of_le_left (Finset.le_sup (f := fun k : Fin a => f ⟨k.val, by omega⟩) (Finset.mem_univ ⟨l.val, h⟩))
    · refine le_max_of_le_right (le_trans (le_of_eq (congrArg f (Fin.ext ?_)))
        (Finset.le_sup (f := fun k : Fin b => f ⟨a + k.val, by omega⟩) (Finset.mem_univ ⟨l.val - a, by omega⟩)))
      show l.val = a + (l.val - a)
      omega
  · exact Finset.le_sup (f := f) (Finset.mem_univ _)
  · exact Finset.le_sup (f := f) (Finset.mem_univ _)

/-- The bitwise and of a row number with 127 is its remainder by 128. -/
theorem and_127 (r : ℕ) (hr : r < 512) : IntOp.andi (BitVec.ofNat 32 r) 127#32 = BitVec.ofNat 32 (r % 128) := by
  apply BitVec.eq_of_toNat_eq
  show (BitVec.ofNat 32 r &&& 127#32).toNat = _
  rw [BitVec.toNat_and, BitVec.toNat_ofNat, BitVec.toNat_ofNat, BitVec.toNat_ofNat, Nat.mod_eq_of_lt (by omega : r < 2 ^ 32),
    Nat.mod_eq_of_lt (by omega : r % 128 < 2 ^ 32)]
  exact Nat.and_two_pow_sub_one_eq_mod r 7

/-- The kernel's mask at row `r`, lane `l` is set exactly at the lane `r mod 128`. -/
theorem mask_iff (r l : ℕ) (hr : r < 512) (hl : l < 128) :
    IntOp.cmpi .eq (IntOp.andi (BitVec.ofNat 32 r) 127#32) (BitVec.ofNat 32 l) = 1#1 ↔ l = r % 128 := by
  rw [and_127 r hr, WordCmp.cmpi_eq_ofNat_eq_one_iff (by omega) (by omega), eq_comm]

end Cert.RowMax

end
-- ==== Proof.Value.lean ====
/-
# The kernel's result is the reference's

Read at ideal values, the tile a device computes holds the maxima of the rows of its block; row `r` of what it stores is
the greater of its own and its partner's maximum of row `r`; and the reference's row is the maximum over a whole row of
the array. A device and its partner hold the two halves of the same rows, so the stored block is the reference's.
-/
module

public import proofs.«01_k».proof.Proof.KernelIdeal.Launch
public import proofs.«01_k».proof.Proof.Gen.ReferenceIdeal.Run
public import proofs.«01_k».proof.Proof.RowMax
public import Idealize.ShloMosaic.Lib.Layout
public import Idealize.ShloMosaic.Lib.Pointwise
public import Idealize.ShloMosaic.Lib.Tactic.CleanTypes

@[expose] public section

noncomputable section

namespace Cert.Value

open Idealize.ShloMosaic Idealize.ShloMosaic.TcCoe
open Cert.RowMax

/-! ## The kernel's two values -/

section Kernel

open Cert.KernelIdeal Cert.KernelIdeal.Gen Cert.KernelIdeal.Exchange

/-- The tile at `(q, l)` holds the maximum of the block's row `128 q + l`. -/
theorem partial_at (x : Vec Ideal S512x256 .f32) (j : S1x4x128.Idx) (r : Fin 512)
    (hr : r.val = (j 1).val * 128 + (j 2).val) : k0_pay1 x j = rowMax fun k : Fin 256 => x (ix2 r k) := by
  have e : k0_pay1 x j = Finset.fold max (Ideal.ofBits .f32 0xFF800000#32) (fun k : Fin 256 => x (ix2 r k)) Finset.univ := by
    obtain ⟨r, h⟩ := r
    subst hr
    pointwise [k0_pay1]
  exact e.trans (fold_eq_rowMax _)

/-- Row `r` of the stored column is the greater of the two tiles' entries at `(r / 128, r mod 128)`: of the row spread
    over the lanes, the mask keeps that lane and puts minus infinity in the others. -/
theorem combined_at (x y : Vec Ideal S1x4x128 .f32) (j : S512x1.Idx) (q : Fin 4) (l : Fin 128)
    (hq : q.val = (j 0).val / 128) (hl : l.val = (j 0).val % 128) :
    k0_pay2 x y j = max (x (ix3 0 q l)) (y (ix3 0 q l)) := by
  have e : k0_pay2 x y j = Finset.fold max (Ideal.ofBits .f32 0xFF800000#32)
      (fun k : Fin 128 => Scalar.select (IntOp.cmpi .eq (IntOp.andi (BitVec.ofNat 32 (j 0).val) 127#32) (BitVec.ofNat 32 k.val))
        (max (x (ix3 0 q k)) (y (ix3 0 q k))) (Ideal.ofBits .f32 0xFF800000#32)) Finset.univ := by
    obtain ⟨q, h⟩ := q
    subst hq
    pointwise [k0_pay2]
  have hj : (j 0).val < 512 := (j 0).isLt
  rw [e, fold_eq_rowMax]
  refine rowMax_single l (fun k => max (x (ix3 0 q k)) (y (ix3 0 q k))) _ ?_ fun k hk => ?_
  · exact if_pos ((mask_iff _ _ hj l.isLt).2 hl)
  · exact (if_neg fun h => hk (Fin.ext (((mask_iff _ _ hj k.isLt).1 h).trans hl.symm))).trans start_eq_bot

variable (m : (ℓ : Loc nD τ sig) → Buf (Elt Ideal) ℓ) (ρ : Dev nD → PrngReg)

/-- What device `c` stores in row `r`: the greater of its and its partner's maximum of row `r` of their blocks. -/
theorem result_at (c : Dev nD) (j : S512x1.Idx) :
    result m ρ c j = max (rowMax fun k : Fin 256 => (block m ρ c : Vec Ideal S512x256 .f32) (ix2 (j 0) k))
      (rowMax fun k : Fin 256 => (block m ρ (partner c) : Vec Ideal S512x256 .f32) (ix2 (j 0) k)) := by
  have hj : (j 0).val < 512 := (j 0).isLt
  refine (combined_at _ _ j ⟨(j 0).val / 128, by omega⟩ ⟨(j 0).val % 128, by omega⟩ rfl rfl).trans (congrArg₂ max ?_ ?_)
  · exact partial_at _ _ (j 0) (by show (j 0).val = (j 0).val / 128 * 128 + (j 0).val % 128; omega)
  · exact partial_at _ _ (j 0) (by show (j 0).val = (j 0).val / 128 * 128 + (j 0).val % 128; omega)

end Kernel

/-! ## The reference's value -/

section Reference

open Cert.ReferenceIdeal Cert.ReferenceIdeal.Gen

/-- The reference's result as a function of its argument: the composed term of its three operations. -/
def refOut (X : FVec Ideal S1024x512 .f32) : FVec Ideal S1024x1 .f32 :=
  broadcastInDim S1024x1 ![0] bcast_S1024_S1024x1_0
    (Host.reduce FloatOps.maximumf X (constant (F := Ideal) S_ .f32 0xFF800000#32) reducesTo_S1024x512_S1024_d1 h_S_)

/-- Row `R` of the reference's result is the maximum of row `R` of its argument. -/
theorem refOut_at (X : FVec Ideal S1024x512 .f32) (j : S1024x1.Idx) :
    refOut X j = rowMax fun k : Fin 512 => X (ix2 (j 0) k) := by
  have e : refOut X j = Finset.fold max (Ideal.ofBits .f32 0xFF800000#32) (fun k : Fin 512 => X (ix2 (j 0) k)) Finset.univ := by
    unfold refOut
    clean_types
    pointwise []
  exact e.trans (fold_eq_rowMax _)

end Reference

/-! ## The two are equal -/

section Equal

open Cert.KernelIdeal Cert.KernelIdeal.Gen Cert.KernelIdeal.Exchange

/-- Device `c`'s block of the array: rows from `512 (c / 2)`, columns from `256 (c mod 2)`. -/
def part (X : Vec Ideal ⟨2, ![1024, 512]⟩ .f32) (c : Dev nD) : Vec Ideal ⟨2, ![512, 256]⟩ .f32 :=
  Layout.blockN ⟨2, ![512, 256]⟩ ⟨2, ![1024, 512]⟩ (Layout.meshBlock [2, 2] ![[0], [1]] c) X

theorem rowBlock (c : Dev nD) : Layout.meshLin [2, 2] c.val [0] = c.val / 2 := by revert c; decide
theorem colBlock (c : Dev nD) : Layout.meshLin [2, 2] c.val [1] = c.val % 2 := by revert c; decide

/-- Device `c`'s block read at row `r`, column `k`. -/
theorem part_at (X : Vec Ideal ⟨2, ![1024, 512]⟩ .f32) (c : Dev nD) (r : Fin 512) (k : Fin 256) :
    part X c (ix2 r k) = X (ix2 ⟨c.val / 2 * 512 + r.val, by have := c.isLt; have : nD = 4 := rfl; omega⟩ ⟨c.val % 2 * 256 + k.val, by omega⟩) := by
  refine congrArg X (funext fun b => Fin.ext ?_)
  fin_cases b
  · exact (Layout.TilesN.idx_val _ _ _ _).trans (congrArg (· * 512 + r.val) (rowBlock c))
  · exact (Layout.TilesN.idx_val _ _ _ _).trans (congrArg (· * 256 + k.val) (colBlock c))

/-- A device's and its partner's maxima of row `r` combine to the maximum of the whole row. -/
theorem halves (X : Vec Ideal ⟨2, ![1024, 512]⟩ .f32) (c : Dev nD) (r : Fin 512) (R : Fin 1024)
    (hR : R.val = c.val / 2 * 512 + r.val) :
    max (rowMax fun k : Fin 256 => part X c (ix2 r k)) (rowMax fun k : Fin 256 => part X (partner c) (ix2 r k))
      = rowMax fun k : Fin 512 => X (ix2 R k) := by
  have hp := partner_val c
  rw [rowMax_halves (a := 256) (b := 256) rfl]
  simp only [part_at]
  have at_half (d : Dev nD) (hd : d.val / 2 = c.val / 2) (s : ℕ) (hs : d.val % 2 * 256 = s) (hs' : s + 256 ≤ 512) :
      (rowMax fun k : Fin 256 => X (ix2 ⟨d.val / 2 * 512 + r.val, by omega⟩ ⟨d.val % 2 * 256 + k.val, by omega⟩))
        = rowMax fun k : Fin 256 => X (ix2 R ⟨s + k.val, by omega⟩) := by
    subst hs
    refine congrArg rowMax (funext fun k => congrArg X ?_)
    congr 1
    exact Fin.ext (by show d.val / 2 * 512 + r.val = R.val; omega)
  rcases Nat.mod_two_eq_zero_or_one c.val with h | h
  · rw [at_half c rfl 0 (by omega) (by omega), at_half (partner c) (by omega) 256 (by omega) (by omega)]
    simp only [Nat.zero_add]
  · rw [at_half c rfl 256 (by omega) (by omega), at_half (partner c) (by omega) 0 (by omega) (by omega), max_comm]
    simp only [Nat.zero_add]

/-- If every device's argument is its block of `X`, what device `c` stores is its block of the reference's result on
    `X`. -/
theorem result_eq (m : (ℓ : Loc nD τ sig) → Buf (Elt Ideal) ℓ) (ρ : Dev nD → PrngReg)
    (X : Vec Ideal ⟨2, ![1024, 512]⟩ .f32) (hX : ∀ c : Dev nD, m ((c : Thread nD τ).loc main_arg0) = part X c) (c : Dev nD) :
    result m ρ c = Layout.blockN ⟨2, ![512, 1]⟩ ⟨2, ![1024, 1]⟩ (Layout.meshBlock [2, 2] ![[0], []] c) (refOut X) := by
  funext j
  refine (result_at m ρ c j).trans (Eq.trans ?_ (refOut_at X _).symm)
  rw [block_eq, block_eq, hX, hX]
  exact halves X c (j 0) _ ((Layout.TilesN.idx_val _ _ _ _).trans (congrArg (· * 512 + (j 0).val) (rowBlock c)))

end Equal

end Cert.Value

end
-- ==== Proof.lean ====
/-
# The certificate

The five claims: both programs and the reference run to the end with their arguments unchanged and their semaphores at
zero; the idealized program is the kernel, nothing replaced; and on the extended reals its result, device by device, is
that device's block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel: every run ends, with each device's block of `x` unchanged and every semaphore at zero. -/
theorem frame_kernel : Cert.quiescent_Kernel := fun m ρ _ =>
  (θ_run Cert.Kernel.defs _ _).mono (fun _ h => ⟨fun c => (h.1 c).2, h.2⟩) (Cert.Kernel.Exchange.run_main (F := Bits) m ρ)

/-- The idealized kernel: the same. -/
theorem frame_ideal : Cert.quiescent_KernelIdeal := fun m ρ _ =>
  (θ_run Cert.KernelIdeal.defs _ _).mono (fun _ h => ⟨fun c => (h.1 c).2, h.2⟩)
    (Cert.KernelIdeal.Exchange.run_main (F := Ideal) m ρ)

/-- The reference: every run ends with `x` unchanged, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where each device's argument is its block of the reference's, each device's result is its block of the reference's
    result: the whole result is `Cert.Value.refOut`, and the equation is `Cert.Value.result_eq`. -/
theorem algebraic : Cert.algebraic_KernelIdeal_ReferenceIdeal := fun m ρ m' ρ' _ agree =>
  ⟨Cert.Value.refOut (m' (((0 : Dev Cert.ReferenceIdeal.nD).tc : Thread _ Cert.ReferenceIdeal.τ).loc Cert.ReferenceIdeal.main_arg0)),
    (θ_run Cert.KernelIdeal.defs _ _).mono
      (fun _ h c => ⟨(h.1 c).1.trans (Cert.Value.result_eq m ρ _ agree c), (h.1 c).2⟩)
      (Cert.KernelIdeal.Exchange.run_main (F := Ideal) m ρ),
    (θ_run Cert.ReferenceIdeal.defs _ _).mono (fun _ h => h 0) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
